-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x32x88x80 : Shape := ⟨4, ![6, 32, 88, 80]⟩
abbrev S6x118x32x88 : Shape := ⟨4, ![6, 118, 32, 88]⟩
abbrev S1993728 : Shape := ⟨1, ![1993728]⟩
abbrev S40000x3 : Shape := ⟨2, ![40000, 3]⟩
abbrev S5280x256 : Shape := ⟨2, ![5280, 256]⟩
abbrev S7788x256 : Shape := ⟨2, ![7788, 256]⟩
abbrev S120000 : Shape := ⟨1, ![120000]⟩
abbrev S_ : Shape := ⟨0, ![]⟩
abbrev S120064 : Shape := ⟨1, ![120064]⟩
abbrev S469x256 : Shape := ⟨2, ![469, 256]⟩
abbrev S1x1 : Shape := ⟨2, ![1, 1]⟩
abbrev S1x5280x256 : Shape := ⟨3, ![1, 5280, 256]⟩
abbrev S1 : Shape := ⟨1, ![1]⟩
abbrev S1x1x1 : Shape := ⟨3, ![1, 1, 1]⟩
abbrev S1x7788x256 : Shape := ⟨3, ![1, 7788, 256]⟩
abbrev S1x469x256 : Shape := ⟨3, ![1, 469, 256]⟩
abbrev S122880x256 : Shape := ⟨2, ![122880, 256]⟩
abbrev S8192x256 : Shape := ⟨2, ![8192, 256]⟩
abbrev S6x80x256x256 : Shape := ⟨4, ![6, 80, 256, 256]⟩

abbrev nBuf : Space → Nat
  | .hbm => 15
  | .vmem => 6
  | .smem => 2
  | _ => 0

abbrev bufTy : (tb : Table) → Fin (tcTables nBuf tb) → BufTy
  | .hbm, ⟨0, _⟩ => ⟨S6x32x88x80, .f32⟩
  | .hbm, ⟨1, _⟩ => ⟨S6x118x32x88, .f32⟩
  | .hbm, ⟨2, _⟩ => ⟨S1993728, .i32⟩
  | .hbm, ⟨3, _⟩ => ⟨S40000x3, .i32⟩
  | .hbm, ⟨4, _⟩ => ⟨S5280x256, .f32⟩
  | .hbm, ⟨5, _⟩ => ⟨S7788x256, .f32⟩
  | .hbm, ⟨6, _⟩ => ⟨S7788x256, .i32⟩
  | .hbm, ⟨7, _⟩ => ⟨S120000, .i32⟩
  | .hbm, ⟨8, _⟩ => ⟨S_, .i32⟩
  | .hbm, ⟨9, _⟩ => ⟨S_, .i32⟩
  | .hbm, ⟨10, _⟩ => ⟨S120064, .i32⟩
  | .hbm, ⟨11, _⟩ => ⟨S469x256, .i32⟩
  | .hbm, ⟨12, _⟩ => ⟨S1x1, .f32⟩
  | .hbm, ⟨13, _⟩ => ⟨S122880x256, .f32⟩
  | .hbm, ⟨14, _⟩ => ⟨S6x80x256x256, .f32⟩
  | .local _ .vmem, ⟨0, _⟩ => ⟨S5280x256, .f32⟩
  | .local _ .vmem, ⟨1, _⟩ => ⟨S7788x256, .f32⟩
  | .local _ .vmem, ⟨2, _⟩ => ⟨S7788x256, .i32⟩
  | .local _ .vmem, ⟨3, _⟩ => ⟨S469x256, .i32⟩
  | .local _ .vmem, ⟨4, _⟩ => ⟨S8192x256, .f32⟩
  | .local _ .vmem, ⟨5, _⟩ => ⟨S8192x256, .f32⟩
  | .local _ .smem, ⟨0, _⟩ => ⟨S1x1, .f32⟩
  | .local _ .smem, ⟨1, _⟩ => ⟨S1x1, .f32⟩
  | _, _ => ⟨S6x32x88x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg1_0 : Ref sig .tc := ⟨.vmem, 4, rfl⟩
abbrev cc1_stg1_1 : Ref sig .tc := ⟨.vmem, 5, rfl⟩
abbrev cc0_stg4_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := .none

abbrev stage0_0 : Fin 1 → Memref sig .tc .vmem S5280x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7788x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7788x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S469x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8192x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S6x32x88x80 : Shape := ⟨4, ![6, 32, 88, 80]⟩
abbrev S6x118x32x88 : Shape := ⟨4, ![6, 118, 32, 88]⟩
abbrev S1993728 : Shape := ⟨1, ![1993728]⟩
abbrev S40000x3 : Shape := ⟨2, ![40000, 3]⟩
abbrev S_ : Shape := ⟨0, ![]⟩
abbrev S6x80x256x256 : Shape := ⟨4, ![6, 80, 256, 256]⟩

abbrev nBuf : Space → Nat
  | .hbm => 29
  | .vmem => 0
  | .smem => 0
  | _ => 0

abbrev bufTy : (tb : Table) → Fin (tcTables nBuf tb) → BufTy
  | .hbm, ⟨0, _⟩ => ⟨S6x32x88x80, .f32⟩
  | .hbm, ⟨1, _⟩ => ⟨S6x118x32x88, .f32⟩
  | .hbm, ⟨2, _⟩ => ⟨S1993728, .i32⟩
  | .hbm, ⟨3, _⟩ => ⟨S40000x3, .i32⟩
  | .hbm, ⟨4, _⟩ => ⟨S_, .f32⟩
  | .hbm, ⟨5, _⟩ => ⟨S6x80x256x256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1993728, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S40000x3, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S6x80x256x256, .f32⟩
  | .hbm, ⟨28, _⟩ => ⟨S6x80x256x256, .f32⟩
  | _, _ => ⟨S6x32x88x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_cst_3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_4 : Ref sig .tc := ⟨.hbm, 16, rfl⟩
abbrev main_v7 : Ref sig .tc := ⟨.hbm, 17, rfl⟩
abbrev main_cst_5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_6 : Ref sig .tc := ⟨.hbm, 22, rfl⟩
abbrev main_v11 : Ref sig .tc := ⟨.hbm, 23, rfl⟩
abbrev main_cst_7 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]
-- ==== Proof.KernelRun.lean ====
/- The idealized kernel's run, with its result: every weakly fair execution terminates, and leaves in the result buffer
   what the last segment's boundary contents say, and the arguments as they were.

   The set-up of the launch is the one of the frame. Its last thread state already says what EVERY array of the program
   holds at the end, so the result is read off in the same way as the arguments are. -/
module

public import proofs.«01_k».proof.Proof.Gen.KernelIdeal.Frame

@[expose] public section

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- On every device, for any float values, from any memory with zero counters: every weakly fair execution of the program
    terminates, with the result at the last boundary's contents and the arguments unchanged. -/
theorem run : θ_run defs (onTc (τ := τ) (main (F := F))) ⟨m, fun _ => 0, ρ⟩ (fun r => ∀ c : Dev nD,
      r.2.mem ((c.tc : Thread nD τ).loc main_v8) = W6 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v8 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.Val

end
-- ==== Proof.KernelValue.lean ====
/- What the idealized kernel leaves in its result.

   The first call adds every argument up and multiplies the total by zero; the second call copies that one number to
   every element of a 122880 × 256 array; the host reshapes this array to 6 × 80 × 256 × 256. Over the extended reals a
   product with zero is zero whatever the total is (an infinite one included), so every element of the result is zero. -/
module

public import proofs.«01_k».proof.Proof.Gen.KernelIdeal.Frame
public import Idealize.ShloMosaic.Lib.Pipeline.Value
public import Idealize.ShloMosaic.Lib.IdealHost
public import Idealize.ShloMosaic.Lib.StableHlo.Run
public import Idealize.ShloMosaic.Lib.VecWindow
public import Idealize.ShloMosaic.Lib.Tactic

@[expose] public section

noncomputable section

namespace Cert.KernelIdeal.Val

open Cert.KernelIdeal Cert.KernelIdeal.Gen
open Idealize.ShloMosaic Idealize.ShloMosaic.TcCoe Idealize.SL.Sem
open Idealize.ShloMosaic.Pipeline (Dat)

/-! ## The blocks that the two bodies leave, for any floats -/

section AnyFloats
variable {F : FTy → Type} [FloatOps F]

/-- The first call's body leaves, in its one cell, the scaled total of its four blocks. -/
theorem total_cell (c : Dev nD) (a0 : Memref sig .tc .vmem S5280x256 .f32) (h0 : a0.IsWhole)
    (a1 : Memref sig .tc .vmem S7788x256 .f32) (h1 : a1.IsWhole) (a2 : Memref sig .tc .vmem S7788x256 .i32) (h2 : a2.IsWhole)
    (a3 : Memref sig .tc .vmem S469x256 .i32) (h3 : a3.IsWhole) (a4 : Memref sig .tc .smem S1x1 .f32) (h4 : a4.IsWhole)
    (x0 : Vec F S5280x256 .f32) (x1 : Vec F S7788x256 .f32) (x2 : Vec F S7788x256 .i32) (x3 : Vec F S469x256 .i32) :
    out0_A_4 c a0 h0 a1 h1 a2 h2 a3 h3 a4 h4 x0 x1 x2 x3 = fun _ => k0_pay1 x0 x1 x2 x3 := by
  have hz : (![0, 0] : Fin 2 → ℕ) = fun _ => 0 := funext fun a => by fin_cases a <;> rfl
  unfold out0_A_4 kernelRun0_A
  dsimp only
  sl_unfold_words
  rw [View.read_writes_full]
  simp only [View.readAt_eq_ld, h0.read_unread, h1.read_unread, h2.read_unread, h3.read_unread,
    View.ld_unit_zero (S := S5280x256) hz, View.ld_unit_zero (S := S7788x256) hz, View.ld_unit_zero (S := S469x256) hz]
  rfl

/-- The second call's body leaves, in every cell of its block, the number that it was given. -/
theorem fill_block (c : Dev nD) (i : grid1.Coords) (a1 : Memref sig .tc .smem S1x1 .f32) (h1 : a1.IsWhole)
    (a2 : Memref sig .tc .vmem S8192x256 .f32) (h2 : a2.IsWhole) (x : Vec F S1x1 .f32) (z : F .f32) (hx : x = fun _ => z) :
    out1_A_1 c i a1 h1 a2 h2 x = fun _ => z := by
  subst hx
  unfold out1_A_1 kernelRun1_A
  dsimp only
  sl_unfold_words
  rw [View.read_writes_full]
  simp only [View.readAt_eq_ld, h1.read_unread]
  rfl

end AnyFloats

/-! ## Over the extended reals -/

/-- The scaled total is zero: it is a product with the literal `0.0`. -/
theorem total_zero (x0 : Vec Ideal S5280x256 .f32) (x1 : Vec Ideal S7788x256 .f32) (x2 : Vec Ideal S7788x256 .i32)
    (x3 : Vec Ideal S469x256 .i32) : k0_pay1 (F := Ideal) x0 x1 x2 x3 = (0 : EReal) := by
  unfold k0_pay1
  dsimp only
  rw [Ideal.scalar_mulf_def]
  show _ * Ideal.ofBits .f32 0x00000000#32 = (0 : EReal)
  rw [Ideal.ofBits_zero_f32, mul_zero]

variable (m : (ℓ : Loc nD τ sig) → Buf (Elt Ideal) ℓ) (ρ : Dev nD → PrngReg)

/-- After the first call its one-cell result holds zero. -/
theorem after_reduce (V : (c : Dev nD) → (b : Ref sig .tc) → Buf (Elt Ideal) ((c : Thread nD τ).loc b)) (c : Dev nD) :
    (dat0 V c).arrAt 4 cfg0.N = fun _ => (0 : EReal) := by
  funext i
  refine (dat0 V c).arrAt_forall_of_cover 4 (fun _ v => v = (0 : EReal)) (fun t _ y => ?_) (fun i => ?_) i
  · show (dat0 V c).after 4 t y = (0 : EReal)
    rw [after0_4]
    unfold outsAt0
    rw [total_cell]
    exact total_zero ..
  · have hN : 0 < cfg0.N := by decide
    refine ⟨⟨0, hN⟩, flush0_4 _, ?_⟩
    show i ∈ ((View.whole main_v6).slice (win0_4.rect ⟨0, hN⟩)).set
    rw [View.set_slice_whole, Rect.mem_set_unit]
    intro a
    have hi := (i a).isLt
    fin_cases a <;> exact ⟨Nat.zero_le _, hi⟩

/-- The block of the one-cell array that a point of the second call reads is the number in its cell. -/
theorem cell_block (V : (c : Dev nD) → (b : Ref sig .tc) → Buf (Elt Ideal) ((c : Thread nD τ).loc b)) (c : Dev nD)
    (hV : V c main_v6 = fun _ => (0 : EReal)) (t : Fin cfg1.N) : iblk1 V c 0 t = fun _ => (0 : EReal) := by
  funext y
  unfold iblk1
  rw [View.read_apply]
  show V c main_v6 _ = (0 : EReal)
  rw [hV]

/-- After the second call every element of its result is zero, when the one-cell array it reads holds zero. -/
theorem after_fill (V : (c : Dev nD) → (b : Ref sig .tc) → Buf (Elt Ideal) ((c : Thread nD τ).loc b)) (c : Dev nD)
    (hV : V c main_v6 = fun _ => (0 : EReal)) : (dat1 V c).arrAt 1 cfg1.N = fun _ => (0 : EReal) := by
  funext i
  refine (dat1 V c).arrAt_forall_of_cover 1 (fun _ v => v = (0 : EReal)) (fun t _ y => ?_) (fun i => ?_) i
  · show (dat1 V c).after 1 t y = (0 : EReal)
    rw [after1_1]
    unfold outsAt1
    rw [fill_block (F := Ideal) _ _ _ _ _ _ _ (0 : EReal) (cell_block V c hV t)]
  · have h0 : (i (0 : Fin 2)).val < 122880 := (i (0 : Fin 2)).isLt
    have h1 : (i (1 : Fin 2)).val < 256 := (i (1 : Fin 2)).isLt
    have hN : (i (0 : Fin 2)).val / 8192 < cfg1.N := by
      rw [show cfg1.N = 15 from N_1]; omega
    refine ⟨⟨_, hN⟩, flush1_1 _, ?_⟩
    show i ∈ ((View.whole main_v7).slice (win1_1.rect ⟨_, hN⟩)).set
    rw [View.set_slice_whole, Rect.mem_set_unit]
    have hix : ∀ t : Fin cfg1.N, win1_1.index t 0 = t.val ∧ win1_1.index t 1 = 0 :=
      (by decide +kernel : ∀ t : Fin grid1.N, win1_1.index t 0 = t.val ∧ win1_1.index t 1 = 0)
    obtain ⟨e0, e1⟩ := hix ⟨_, hN⟩
    intro a
    fin_cases a
    · show win1_1.index _ 0 * 8192 ≤ (i (0 : Fin 2)).val ∧ (i (0 : Fin 2)).val < win1_1.index _ 0 * 8192 + 8192
      rw [e0]; dsimp only; omega
    · show win1_1.index _ 1 * 256 ≤ (i (1 : Fin 2)).val ∧ (i (1 : Fin 2)).val < win1_1.index _ 1 * 256 + 256
      rw [e1]; omega

/-- When the whole program ends, every element of its result is zero. -/
theorem result_zero (c : Dev nD) : W6 m ρ c (Proc.devRef .tc main_v8) = fun _ => (0 : EReal) := by
  have h6 : W4 m ρ c (Proc.devRef .tc main_v6) = fun _ => (0 : EReal) := (W4_arr m ρ c 4).trans (after_reduce (V3 m ρ) c)
  have h7 : W5 m ρ c (Proc.devRef .tc main_v7) = fun _ => (0 : EReal) :=
    (W5_arr m ρ c 1).trans (after_fill (V4 m ρ) c h6)
  have h8 : W6 m ρ c (Proc.devRef .tc main_v8) = shapeCast S6x80x256x256 (W5 m ρ c (Proc.devRef .tc main_v7)) shapeCasts_S122880x256_S6x80x256x256 := by
    after_results
    rfl
  rw [h8, h7]
  rfl

end Cert.KernelIdeal.Val

end
-- ==== Proof.ReferenceValue.lean ====
/- What the idealized reference leaves in its result: zero everywhere.

   The reference is an array of zeros plus four sums, each multiplied by zero. Over the extended reals each product is
   zero, whatever its sum is. -/
module

public import proofs.«01_k».proof.Proof.Gen.ReferenceIdeal.Run
public import Idealize.ShloMosaic.Lib.IdealHost

@[expose] public section

noncomputable section

namespace Cert.ReferenceIdeal.Val

open Cert.ReferenceIdeal Cert.ReferenceIdeal.Gen
open Idealize.ShloMosaic Idealize.ShloMosaic.TcCoe Idealize.SL.Sem

/-- A scalar multiplied by the literal `0.0` is zero. -/
theorem scaled_zero (s : Vec Ideal S_ .f32) : mulf (F := Ideal) s (constant S_ .f32 0x00000000#32) = (fun _ => (0 : EReal) : Vec Ideal S_ .f32) := by
  funext i
  show s i * Ideal.ofBits .f32 0x00000000#32 = (0 : EReal)
  rw [Ideal.ofBits_zero_f32, mul_zero]

/-- Zeros, plus four scalars that are each multiplied by `0.0` and added up, are zero everywhere. -/
theorem sum_zero (a b d e : Vec Ideal S_ .f32) (i : S6x80x256x256.Idx) :
    addf (broadcastInDim S6x80x256x256 ![] bcast_S_S6x80x256x256 (constant (F := Ideal) S_ .f32 0x00000000#32))
      (broadcastInDim S6x80x256x256 ![] bcast_S_S6x80x256x256
        (addf (addf (addf (mulf a (constant S_ .f32 0x00000000#32)) (mulf b (constant S_ .f32 0x00000000#32)))
          (mulf d (constant S_ .f32 0x00000000#32))) (mulf e (constant S_ .f32 0x00000000#32)))) i = (0 : EReal) := by
  rw [scaled_zero, scaled_zero, scaled_zero, scaled_zero]
  show Ideal.ofBits .f32 0x00000000#32 + (((0 : EReal) + 0) + 0 + 0) = (0 : EReal)
  rw [Ideal.ofBits_zero_f32]
  simp only [add_zero]

/-- Every weakly fair execution of the reference terminates with every element of its result zero and its arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15) = (fun _ => (0 : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (funext fun i => sum_zero _ _ _ _ i), (h c).2⟩)
    (Cert.ReferenceIdeal.Value.run (F := Ideal) m ρ)

end Cert.ReferenceIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelValue
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel over the extended reals and the reference end with the same result: both leave zero in every element. -/
theorem algebraic : @Cert.algebraic_KernelIdeal_ReferenceIdeal Cert.KernelIdeal.Gen.facts Cert.ReferenceIdeal.Gen.facts := by
  intro m g m' g' _ _
  refine ⟨fun _ _ => (0 : EReal), ?_, Cert.ReferenceIdeal.Val.run m' g'⟩
  exact (θ_run Cert.KernelIdeal.defs _ _).mono
    (fun _ h c => ⟨(h c).1.trans (Cert.KernelIdeal.Val.result_zero m g c), (h c).2⟩)
    (Cert.KernelIdeal.Val.run (F := Ideal) m g)

/-- The reference terminates with its arguments unchanged; it declares no semaphore, so every counter is zero. -/
theorem reference_frame : @Cert.quiescent_ReferenceIdeal Cert.ReferenceIdeal.Gen.facts := fun m g _ =>
  (θ_run Cert.ReferenceIdeal.defs _ _).mono
    (fun r h => ⟨fun c => (h c).2, Idealize.ShloMosaic.sem_eq_zero_of_no_sems (by decide) r.2⟩)
    (Cert.ReferenceIdeal.Val.run m g)

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame (F := Ideal) m g, reference_frame,
  trivial, algebraic⟩

end Cert.Proof

end
